-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 256#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x8192 : Shape := ⟨2, ![8192, 8192]⟩
abbrev S8192 : Shape := ⟨1, ![8192]⟩
abbrev S1x8192 : Shape := ⟨2, ![1, 8192]⟩
abbrev S1x1 : Shape := ⟨2, ![1, 1]⟩
abbrev S512x8192 : Shape := ⟨2, ![512, 8192]⟩
abbrev S1 : Shape := ⟨1, ![1]⟩
abbrev S256x8192 : Shape := ⟨2, ![256, 8192]⟩
abbrev S256 : Shape := ⟨1, ![256]⟩
abbrev S256x1 : Shape := ⟨2, ![256, 1]⟩
abbrev S1x1x8192 : Shape := ⟨3, ![1, 1, 8192]⟩
abbrev S1x1x1 : Shape := ⟨3, ![1, 1, 1]⟩
abbrev S512 : Shape := ⟨1, ![512]⟩
abbrev S512x1 : Shape := ⟨2, ![512, 1]⟩
abbrev S1x512x1 : Shape := ⟨3, ![1, 512, 1]⟩
abbrev S_ : Shape := ⟨0, ![]⟩

abbrev nBuf : Space → Nat
  | .hbm => 5
  | .vmem => 5
  | .smem => 1
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S1x8192, .i32⟩
  | .hbm, ⟨3, _⟩ => ⟨S1x1, .f32⟩
  | .hbm, ⟨4, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S1x8192, .i32⟩
  | .local _ .vmem, ⟨3, _⟩ => ⟨S1x1, .f32⟩
  | .local _ .vmem, ⟨4, _⟩ => ⟨S1x8192, .f32⟩
  | .local _ .smem, ⟨0, _⟩ => ⟨S1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S256 : Shape := ⟨1, ![256]⟩
abbrev S1 : Shape := ⟨1, ![1]⟩
abbrev S1x1 : Shape := ⟨2, ![1, 1]⟩
abbrev S1x8192 : Shape := ⟨2, ![1, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S_, .i32⟩
  | .hbm, ⟨18, _⟩ => ⟨S256, .i32⟩
  | .hbm, ⟨19, _⟩ => ⟨S_, .i32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S8192x1, .i32⟩
  | .hbm, ⟨31, _⟩ => ⟨S_, .i32⟩
  | .hbm, ⟨32, _⟩ => ⟨S8192, .i32⟩
  | .hbm, ⟨33, _⟩ => ⟨S256, .i32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S1, .i32⟩
  | .hbm, ⟨47, _⟩ => ⟨S_, .i32⟩
  | .hbm, ⟨48, _⟩ => ⟨S8192x1, .i32⟩
  | .hbm, ⟨49, _⟩ => ⟨S8192x1, .i1⟩
  | .hbm, ⟨50, _⟩ => ⟨S1x1, .i32⟩
  | .hbm, ⟨51, _⟩ => ⟨S8192x1, .i32⟩
  | .hbm, ⟨52, _⟩ => ⟨S8192x1, .i1⟩
  | .hbm, ⟨53, _⟩ => ⟨S8192x1, .i1⟩
  | .hbm, ⟨54, _⟩ => ⟨S_, .i1⟩
  | .hbm, ⟨55, _⟩ => ⟨S8192, .i1⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S1x8192, .f32⟩
  | .hbm, ⟨63, _⟩ => ⟨S8192x8192, .f32⟩
  | .hbm, ⟨64, _⟩ => ⟨S8192x8192, .f32⟩
  | .hbm, ⟨65, _⟩ => ⟨S1x8192, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_v2 : Ref sig .tc := ⟨.hbm, 22, rfl⟩
abbrev main_c_1 : Ref sig .tc := ⟨.hbm, 23, rfl⟩
abbrev main_v3 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_3 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_cst : Ref sig .tc := ⟨.hbm, 57, rfl⟩
abbrev main_call2_v14 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_4 : Ref sig .tc := ⟨.hbm, 68, rfl⟩
abbrev main_v23 : Ref sig .tc := ⟨.hbm, 69, rfl⟩
abbrev main_cst_5 : Ref sig .tc := ⟨.hbm, 70, rfl⟩
abbrev main_v24 : Ref sig .tc := ⟨.hbm, 71, rfl⟩
abbrev main_cst_6 : Ref sig .tc := ⟨.hbm, 72, rfl⟩
abbrev main_v25 : Ref sig .tc := ⟨.hbm, 73, rfl⟩

abbrev nD : Nat := 1
abbrev τ : Topo := Topo.v7x

variable {F : FTy → Type} [FloatOps F]
-- ==== Proof.BlockTerms.lean ====
/-
  What one grid point leaves behind, as a term in what it found: the payloads of the kernel's stores with
  every load replaced by the whole contents it reads.  Nothing here is about numbers yet.
-/
module

public import proofs.«01_k».proof.Proof.Gen.KernelIdeal.Frame
public import Idealize.ShloMosaic.Lib.Pipeline.Value
public import Idealize.ShloMosaic.Lib.Tactic
public import Idealize.ShloMosaic.Lib.ValueIdx

@[expose] public section

noncomputable section

namespace Cert.KernelIdeal.Loss

open Cert.KernelIdeal Cert.KernelIdeal.Gen Idealize.ShloMosaic Idealize.ShloMosaic.TcCoe Idealize.SL.Sem

variable {F : FTy → Type} [FloatOps F]

/-- Two zero offsets are the constant zero. -/
theorem zeros2 : (![0, 0] : Fin 2 → Nat) = fun _ => 0 := funext fun a => by fin_cases a <;> rfl

/-- One zero offset is the constant zero. -/
theorem zeros1 : (![0] : Fin 1 → Nat) = fun _ => 0 := funext fun a => by fin_cases a; rfl

/-- The only index of a one-element vector. -/
abbrev only : S1.Idx := ValueIdx.ix1 (⟨0, Nat.one_pos⟩ : Fin 1)

/-- A later point (any but the first) leaves in the output block the payload of its one store, over the
    input block, the carried weights, the carried sum of weights and the running total. -/
theorem out_later (c : Dev nD) (i : grid0.Coords) (a1 : Memref sig .tc .vmem S512x8192 .f32) (h1 : a1.IsWhole)
    (a2 : Memref sig .tc .vmem S1x8192 .i32) (h2 : a2.IsWhole) (a3 : Memref sig .tc .vmem S1x1 .f32) (h3 : a3.IsWhole)
    (a4 : Memref sig .tc .vmem S1x8192 .f32) (h4 : a4.IsWhole) (a5 : Memref sig .tc .smem S1 .f32) (h5 : a5.IsWhole)
    (hc : ¬cond0_0 i) (x : Vec F S512x8192 .f32) (t : Vec F S1x8192 .i32) (o : Vec F S1x1 .f32)
    (w : Vec F S1x8192 .f32) (s : Vec F S1 .f32) :
    out0_B_2 c i a1 h1 a2 h2 a3 h3 a4 h4 a5 h5 hc x t o w s = k0_pay5 x w (s only) o := by
  unfold out0_B_2
  rw [View.read_writes_eq_canon _ _ _ (cover0_B_2 c i a1 h1 a2 h2 a3 h3 a4 h4 a5 h5 hc x t o w s)]
  unfold kernelRun0_B
  dsimp only
  rw [View.canon_unit_zero zeros2]
  simp only [View.readAt_eq_ld, h1.read_unread, h2.read_unread, h3.read_unread, h4.read_unread, h5.read_unread,
    View.ld_unit_zero (S := S512x8192) zeros2, View.ld_unit_zero (S := S1x8192) zeros2, View.ld_unit_zero (S := S1x1) zeros2]
  sl_unfold_words
  rw [View.readAt_eq_ld, h5.read_unread, View.ld_unit_zero (S := S1) zeros1,
    show (Shape.Idx.first _ : S1.Idx) = only from funext fun a => match a with | ⟨0, _⟩ => Subsingleton.elim (α := Fin 1) _ _]

/-- The first point leaves in the output block the payload of its second store: the weights and their sum
    are the ones it has just stored, and the total it has just set to zero. -/
theorem out_first (c : Dev nD) (i : grid0.Coords) (a1 : Memref sig .tc .vmem S512x8192 .f32) (h1 : a1.IsWhole)
    (a2 : Memref sig .tc .vmem S1x8192 .i32) (h2 : a2.IsWhole) (a3 : Memref sig .tc .vmem S1x1 .f32) (h3 : a3.IsWhole)
    (a4 : Memref sig .tc .vmem S1x8192 .f32) (h4 : a4.IsWhole) (a5 : Memref sig .tc .smem S1 .f32) (h5 : a5.IsWhole)
    (hc : cond0_0 i) (x : Vec F S512x8192 .f32) (t : Vec F S1x8192 .i32) :
    out0_A_2 c i a1 h1 a2 h2 a3 h3 a4 h4 a5 h5 hc x t = k0_pay5 x (k0_pay2 t) (k0_pay3 t) (k0_pay4 (F := F)) := by
  unfold out0_A_2
  rw [View.read_writes_eq_canon _ _ _ (cover0_A_2 c i a1 h1 a2 h2 a3 h3 a4 h4 a5 h5 hc x t)]
  unfold kernelRun0_A
  dsimp only
  sl_unfold_words
  rw [View.canon_cons_unit_zero (S := S1x1) zeros2, View.readCov_unit_zero (S := S1x1) _ zeros2,
    View.readCov_unit_zero (S := S1x8192) _ zeros2]
  simp only [View.readAt_eq_ld, h1.read_unread, h2.read_unread, View.ld_unit_zero (S := S512x8192) zeros2,
    View.ld_unit_zero (S := S1x8192) zeros2]

/-- The first point leaves the weights in the vector scratch. -/
theorem weights_first (c : Dev nD) (i : grid0.Coords) (a1 : Memref sig .tc .vmem S512x8192 .f32) (h1 : a1.IsWhole)
    (a2 : Memref sig .tc .vmem S1x8192 .i32) (h2 : a2.IsWhole) (a3 : Memref sig .tc .vmem S1x1 .f32) (h3 : a3.IsWhole)
    (a4 : Memref sig .tc .vmem S1x8192 .f32) (h4 : a4.IsWhole) (a5 : Memref sig .tc .smem S1 .f32) (h5 : a5.IsWhole)
    (hc : cond0_0 i) (x : Vec F S512x8192 .f32) (t : Vec F S1x8192 .i32) :
    sout0_A_0 c i a1 h1 a2 h2 a3 h3 a4 h4 a5 h5 hc x t = k0_pay2 t := by
  unfold sout0_A_0
  rw [View.read_writes_eq_canon _ _ _ (scover0_A_0 c i a1 h1 a2 h2 a3 h3 a4 h4 a5 h5 hc x t)]
  unfold kernelRun0_A
  dsimp only
  sl_unfold_words
  rw [View.canon_unit_zero zeros2]
  simp only [View.readAt_eq_ld, h2.read_unread, View.ld_unit_zero (S := S1x8192) zeros2]

/-- The first point leaves the sum of the weights in the scalar scratch. -/
theorem sum_first (c : Dev nD) (i : grid0.Coords) (a1 : Memref sig .tc .vmem S512x8192 .f32) (h1 : a1.IsWhole)
    (a2 : Memref sig .tc .vmem S1x8192 .i32) (h2 : a2.IsWhole) (a3 : Memref sig .tc .vmem S1x1 .f32) (h3 : a3.IsWhole)
    (a4 : Memref sig .tc .vmem S1x8192 .f32) (h4 : a4.IsWhole) (a5 : Memref sig .tc .smem S1 .f32) (h5 : a5.IsWhole)
    (hc : cond0_0 i) (x : Vec F S512x8192 .f32) (t : Vec F S1x8192 .i32) :
    sout0_A_1 c i a1 h1 a2 h2 a3 h3 a4 h4 a5 h5 hc x t = fun _ => k0_pay3 t := by
  unfold sout0_A_1
  rw [View.read_writes_eq_canon _ _ _ (scover0_A_1 c i a1 h1 a2 h2 a3 h3 a4 h4 a5 h5 hc x t)]
  unfold kernelRun0_A
  dsimp only
  sl_unfold_words
  rw [View.canon_unit_zero zeros1]
  simp only [View.readAt_eq_ld, h2.read_unread, View.ld_unit_zero (S := S1x8192) zeros2]
  rfl

end Cert.KernelIdeal.Loss

end
-- ==== Proof.KernelRun.lean ====
/-
  The whole run of the kernel: its scalar result is the running total after the last of the sixteen grid
  points, and each point adds one block's share to that total.
-/
module

public import proofs.«01_k».proof.Proof.BlockTerms

@[expose] public section

noncomputable section

namespace Cert.KernelIdeal.Loss

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The labels as the grid's first point sees them: one row. -/
abbrev labels (c : Dev nD) : Vec F S1x8192 .i32 := iblk m c 1 ⟨0, by rw [show cfg0.N = 16 from N_0]; decide⟩

/-- The running total after point `n`: the first point starts from zero, every later one from its predecessor's. -/
def total (c : Dev nD) : (n : ℕ) → n < cfg0.N → Vec F S1x1 .f32
  | 0, h => k0_pay5 (iblk m c 0 ⟨0, h⟩) (k0_pay2 (labels m c)) (k0_pay3 (labels m c)) (k0_pay4 (F := F))
  | n + 1, h => k0_pay5 (iblk m c 0 ⟨n + 1, h⟩) (k0_pay2 (labels m c)) (k0_pay3 (labels m c)) (total c n (Nat.lt_of_succ_lt h))

/-- After every point the output block holds the running total and the scratch still holds the weights and
    their sum, as the first point computed them. -/
theorem outsAt_eq (c : Dev nD) : ∀ (n : ℕ) (h : n < cfg0.N),
    outsAt0 m c n h = (total m c n h, k0_pay2 (labels m c), fun _ => k0_pay3 (labels m c))
  | 0, h => by
    rw [outsAt0_A m c ⟨0, h⟩ rfl, out_first, weights_first, sum_first]
    rfl
  | n + 1, h => by
    have hN : cfg0.N = 16 := N_0
    have hB : ¬(⟨n + 1, h⟩ : Fin cfg0.N).val % 16 = 0 := by dsimp only; omega
    rw [outsAt0_B m c ⟨n + 1, h⟩ hB, out_later]
    unfold sout0_B_0 sout0_B_1
    have hp := outsAt_eq c n (Nat.lt_of_succ_lt h)
    simp only [Nat.add_sub_cancel, hp]
    rfl

/-- The last grid point. -/
abbrev lastPt : Fin cfg0.N := ⟨15, by rw [show cfg0.N = 16 from N_0]; decide⟩

/-- The running total after the last point, as contents of the region's result array. -/
abbrev finalTotal (c : Dev nD) : Buf (Elt F) ((c : Thread nD τ).loc main_v1) := total m c 15 lastPt.isLt

/-- The only write-back, at the last point, writes the running total there. -/
theorem flushed_eq (c : Dev nD) (t : Fin cfg0.N) (hf : (cfg0.win 2).flush t = true) :
    (dats m 0 c).flushed 2 t = ((cfg0.win 2).blk t).view.read (Elt F) (finalTotal m c) := by
  have hN : cfg0.N = 16 := N_0
  have h15 : t.val = 15 := by have := (flush0_2 t).mp hf; have := t.isLt; omega
  obtain rfl : t = lastPt := Fin.ext h15
  show (cfg0.win 2).cut (grid0.coords lastPt) ((dats m 0 c).after 2 lastPt) = _
  rw [after0_2, outsAt_eq]
  have hz : (fun a => win0_2.index lastPt a * main_v1.ty.shape.size a) = fun _ => 0 :=
    funext fun a => by fin_cases a <;> decide +kernel
  exact (Memref.read_access_unit_zero (Elt F) main_v1 hz (fun a => by rw [congrFun hz a]; simp) (finalTotal m c)).symm

/-- So the region's result array ends holding the running total after the last point. -/
theorem array_eq (c : Dev nD) : (dats m 0 c).arrAt 2 cfg0.N = finalTotal m c :=
  (dats m 0 c).arrAt_eq_of_cover 2 (finalTotal m c) (flushed_eq m c) fun i =>
    ⟨lastPt, (flush0_2 lastPt).mpr rfl, by
      show i ∈ ((View.whole main_v1).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 1 from by decide +kernel]; omega⟩

/-- What the program returns: the running total after the last point, seen as a scalar. -/
abbrev returned (c : Dev nD) : Buf (Elt F) ((c : Thread nD τ).loc main_v2) :=
  shapeCast S_ (finalTotal m c) shapeCasts_S1x1_S_

/-- The last host line writes the scalar view of the region's result into the returned buffer. -/
theorem tail_eq (c : Dev nD) :
    Pipeline.afterTail₀ cfgs (dats m) 0 (V0 m) [hostOps1] c main_v2 = returned m c := by
  unfold Pipeline.afterTail₀
  simp only [hostOps1, List.flatten_cons, List.flatten_nil, List.append_nil]
  after_results
  have hw : Pipeline.withArrays (cfgs 0).spec c (V0 m c) (fun w => (dats m 0 c).arrAt w (cfgs 0).N) (Proc.devRef .tc main_v1)
      = finalTotal m c :=
    (Pipeline.withArrays_arr spec0 launch0.win.arr_inj c (V0 m c) (fun w => (dats m 0 c).arrAt w (cfgs 0).N) 2).trans (array_eq m c)
  rw [hw]
  rfl

/-- The run of the whole program: the result is `returned`, the arguments are unchanged. -/
theorem run : θ_run defs (onTc (τ := τ) (main (F := F))) ⟨m, fun _ => 0, ρ⟩ fun r => ∀ c : Dev nD,
      r.2.mem ((c.tc : Thread nD τ).loc main_v2) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Loss

end
-- ==== Proof.Blocks.lean ====
/-
  Which entries of the two arguments a grid point sees: point `t` sees rows `512 t … 512 t + 511` of the
  matrix, and every label.
-/
module

public import proofs.«01_k».proof.Proof.KernelRun

@[expose] public section

noncomputable section

namespace Cert.KernelIdeal.Loss

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Row `r` of block `n`, as a row of the matrix. -/
abbrev rowOf (n : ℕ) (h : n < cfg0.N) (r : Fin 512) : Fin 8192 :=
  ⟨512 * n + r.val, by have hN : cfg0.N = 16 := N_0; omega⟩

/-- The matrix window's block at a point is the point's own row block. -/
theorem index_matrix : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The labels' window never moves. -/
theorem index_labels : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Entry `(r, j)` of the matrix block at point `n` is entry `(512 n + r, j)` of the argument. -/
theorem block_apply (c : Dev nD) (n : ℕ) (h : n < cfg0.N) (r : Fin 512) (j : Fin 8192) :
    (iblk m c 0 ⟨n, h⟩ : Vec F S512x8192 .f32) (ix2 r j)
      = (m ((c : Thread nD τ).loc main_arg0) : Vec F S8192x8192 .f32) (ix2 (rowOf n h r) j) := by
  unfold iblk
  rw [show V m c (Pipeline.arrRef spec0 0) = m ((c : Thread nD τ).loc main_arg0) from V_main_arg0 m c]
  obtain ⟨e0, e1⟩ := index_matrix ⟨n, h⟩
  dsimp only at e0
  refine congrArg (m ((c : Thread nD τ).loc main_arg0)) (funext fun a => Fin.ext ?_)
  match a with
  | ⟨0, _⟩ =>
    show win0_0.index ⟨n, h⟩ (0 : Fin 2) * 512 + 1 * r.val = 512 * n + r.val
    rw [e0]; omega
  | ⟨1, _⟩ =>
    show win0_0.index ⟨n, h⟩ (1 : Fin 2) * 8192 + 1 * j.val = j.val
    rw [e1]; omega

/-- The host line before the region lays the label argument out as one row. -/
theorem row_of_labels (c : Dev nD) :
    V m c main_v0 = shapeCast S1x8192 (m ((c : Thread nD τ).loc main_arg1) : Vec F S8192 .i32) shapeCasts_S8192_S1x8192 := by
  show StableHlo.after (List.flatten [hostOps0]) (fun b => m (c, b)) (Proc.devRef .tc main_v0) = _
  simp only [hostOps0, List.flatten_cons, List.flatten_nil, List.append_nil]
  after_results
  rfl

/-- The labels' row is the label argument, entry for entry. -/
theorem labels_apply (c : Dev nD) (j : Fin 8192) :
    labels m c (ix2 0 j) = (m ((c : Thread nD τ).loc main_arg1) : Vec F S8192 .i32) (ix1 j) := by
  have hN : 0 < cfg0.N := by rw [show cfg0.N = 16 from N_0]; decide
  obtain ⟨e0, e1⟩ := index_labels ⟨0, hN⟩
  unfold labels iblk
  rw [show V m c (Pipeline.arrRef spec0 1) = V m c main_v0 from rfl, row_of_labels]
  show shapeCast S1x8192 (m ((c : Thread nD τ).loc main_arg1) : Vec F S8192 .i32) shapeCasts_S8192_S1x8192
    (((cfg0.win 1).blk ⟨0, hN⟩).view.emb (ix2 0 j)) = _
  refine (shapeCast_addUnit_apply _ _ _ _).trans (congrArg _ (funext fun a => ?_))
  match a with
  | ⟨0, _⟩ =>
    refine Fin.ext ?_
    show win0_1.index ⟨0, hN⟩ (1 : Fin 2) * 8192 + 1 * j.val = j.val
    rw [e1]; omega

end Cert.KernelIdeal.Loss

end
-- ==== Proof.Algebra.lean ====
/-
  The mathematics of the weighted loss, over the real numbers: what one block of rows adds, what the
  whole sum is, and that the two are the same number.
-/
module

public import Idealize.ShloMosaic.PureOps.Ideal

@[expose] public section

noncomputable section

namespace Cert.Loss

open Finset

variable {n k : ℕ}

/-- How many labels are the class `a`. -/
def count (T : Fin n → Fin k) (a : Fin k) : ℕ := (univ.filter fun j => T j = a).card

/-- A class that some label names is counted at least once. -/
theorem count_pos (T : Fin n → Fin k) (j : Fin n) : 0 < count T (T j) :=
  card_pos.2 ⟨j, mem_filter.2 ⟨mem_univ j, rfl⟩⟩

/-- No class is counted more often than there are labels. -/
theorem count_le (T : Fin n → Fin k) (a : Fin k) : count T a ≤ n :=
  (card_le_univ _).trans (Fintype.card_fin n).le

/-- The weight of position `j`: one over the count of its class. -/
def weight (T : Fin n → Fin k) (j : Fin n) : ℝ := 1 / (count T (T j) : ℝ)

/-- The coefficient of position `j`: its class number times its weight. -/
def coef (T : Fin n → Fin k) (j : Fin n) : ℝ := ((T j).val : ℝ) * weight T j

/-- The largest entry of a row. -/
def rowMax [NeZero n] (x : Fin n → ℝ) : ℝ := univ.sup' univ_nonempty x

/-- The sum of the exponentials of a row, after its largest entry is taken off. -/
def expSum [NeZero n] (x : Fin n → ℝ) : ℝ := ∑ j, Real.exp (x j - rowMax x)

/-- The sum, folded back to its name. -/
theorem expSum_eq [NeZero n] (x : Fin n → ℝ) : ∑ j, Real.exp (x j - rowMax x) = expSum x := rfl

/-- That sum is positive. -/
theorem expSum_pos [NeZero n] (x : Fin n → ℝ) : 0 < expSum x :=
  sum_pos (fun _ _ => Real.exp_pos _) univ_nonempty

/-- The logarithm of the sum of the exponentials of a row. -/
def logSumExp [NeZero n] (x : Fin n → ℝ) : ℝ := Real.log (expSum x) + rowMax x

/-- What a group of rows adds: the coefficients' sum times the rows' log-sum-exps, less the coefficients
    against the column sums, scaled. -/
def blockLoss {p : ℕ} [NeZero n] (X : Fin p → Fin n → ℝ) (c : Fin n → ℝ) (s : ℝ) : ℝ :=
  ((∑ j, c j) * (∑ r, logSumExp (X r)) - ∑ j, (∑ r, X r j) * c j) * s

/-- The weighted loss of a matrix. -/
def loss {p : ℕ} [NeZero n] (X : Fin p → Fin n → ℝ) (t w : Fin n → ℝ) (d : ℝ) : ℝ :=
  (∑ i, ∑ j, -t j * ((X i j - rowMax (X i)) - Real.log (expSum (X i))) * w j) / d

/-- What a group of rows adds, entry by entry. -/
theorem blockLoss_eq {p : ℕ} [NeZero n] (X : Fin p → Fin n → ℝ) (c : Fin n → ℝ) (s : ℝ) :
    blockLoss X c s = (∑ r, ∑ j, c j * (logSumExp (X r) - X r j)) * s := by
  unfold blockLoss
  congr 1
  simp only [mul_sub, sum_sub_distrib, sum_mul]
  congr 1
  · rw [sum_comm]
    exact sum_congr rfl fun j _ => mul_sum _ _ _
  · rw [sum_comm]
    exact sum_congr rfl fun r _ => sum_congr rfl fun j _ => mul_comm _ _

/-- A sum over `q * p` rows is the sum over `q` groups of the sums over their `p` rows. -/
theorem sum_groups {q p N : ℕ} (hN : q * p = N) (f : Fin N → ℝ) (row : ℕ → Fin p → Fin N)
    (hrow : ∀ b, b < q → ∀ r, (row b r).val = p * b + r.val) :
    ∑ b ∈ range q, ∑ r, f (row b r) = ∑ i, f i := by
  subst hN
  rw [← Fin.sum_univ_eq_sum_range (fun b => ∑ r, f (row b r)) q, ← Fintype.sum_prod_type',
    ← finProdFinEquiv.sum_comp f]
  refine sum_congr rfl fun a _ => congrArg f (Fin.ext ?_)
  rw [hrow a.1.val a.1.isLt a.2]
  show p * a.1.val + a.2.val = a.2.val + p * a.1.val
  omega

/-- The blocks' contributions add up to the whole loss. -/
theorem blocks_eq_loss {q p N : ℕ} [NeZero n] (hN : q * p = N) (X : Fin N → Fin n → ℝ) (t w : Fin n → ℝ) (d : ℝ)
    (row : ℕ → Fin p → Fin N) (hrow : ∀ b, b < q → ∀ r, (row b r).val = p * b + r.val) :
    ∑ b ∈ range q, blockLoss (fun r => X (row b r)) (fun j => t j * w j) (1 / d) = loss X t w d := by
  simp only [blockLoss_eq]
  rw [← sum_mul, sum_groups hN (fun i => ∑ j, t j * w j * (logSumExp (X i) - X i j)) row hrow]
  unfold loss
  rw [mul_one_div]
  congr 1
  refine sum_congr rfl fun i _ => sum_congr rfl fun j _ => ?_
  unfold logSumExp
  ring

end Cert.Loss

end
-- ==== Proof.Lift.lean ====
/-
  Real numbers inside the extended reals: the sums, maxima, logarithms and constants the two programs
  use, on entries that are real.
-/
module

public import proofs.«01_k».proof.Proof.Algebra
public import Idealize.ShloMosaic.PureOps.Ideal.Laws
public import Idealize.ShloMosaic.Lib.IdealHost

@[expose] public section

noncomputable section

namespace Cert.Loss

open Finset Idealize.ShloMosaic

/-- A sum of reals, taken in the extended reals, is the real sum. -/
theorem lift_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- The maximum of a row of reals, folded from minus infinity, is the row's largest entry. -/
theorem lift_fold_max {n : ℕ} [NeZero n] (x : Fin n → ℝ) :
    univ.fold max (⊥ : EReal) (fun j => ((x j : ℝ) : EReal)) = ((rowMax x : ℝ) : EReal) := by
  refine le_antisymm ?_ ?_
  · refine (fold_max_le _).2 ⟨bot_le, fun j _ => EReal.coe_le_coe_iff.2 (le_sup' x (mem_univ j))⟩
  · obtain ⟨j, _, hj⟩ := exists_mem_eq_sup' univ_nonempty x
    unfold rowMax
    rw [hj]
    exact le_fold_max _ |>.2 (Or.inr ⟨j, mem_univ j, le_rfl⟩)

/-- The larger of minus infinity and anything is the other. -/
theorem bot_max (x : EReal) : max (⊥ : EReal) x = x := max_eq_right bot_le

/-- The logarithm of a positive real. -/
theorem lift_log {r : ℝ} (h : 0 < r) : Ideal.log ((r : ℝ) : EReal) = ((Real.log r : ℝ) : EReal) := by
  rw [Ideal.log_coe, if_neg (not_le.2 h)]

/-- A quotient of reals by a real that is not zero. -/
theorem lift_div (x : ℝ) {y : ℝ} (h : y ≠ 0) : Ideal.div ((x : ℝ) : EReal) ((y : ℝ) : EReal) = ((x / y : ℝ) : EReal) := by
  rw [Ideal.div_coe h, ← EReal.coe_mul, mul_one_div]

/-- One over a real that is not zero. -/
theorem lift_one_div {y : ℝ} (h : y ≠ 0) : Ideal.div (1 : EReal) ((y : ℝ) : EReal) = ((1 / y : ℝ) : EReal) := by
  rw [← EReal.coe_one, lift_div 1 h]

/-- The constant minus infinity. -/
theorem const_bot : Ideal.ofBits .f32 0xFF800000#32 = (⊥ : EReal) := by
  simp [Ideal.ofBits, Ideal.ieee]

/-- The constant 8192. -/
theorem const_size : Ideal.ofBits .f32 0x46000000#32 = ((8192 : ℝ) : EReal) := by
  simp [Ideal.ofBits, Ideal.ieee, -EReal.coe_mul]; norm_num

/-- The constant one over 8192. -/
theorem const_scale : Ideal.ofBits .f32 0x39000000#32 = ((1 / 8192 : ℝ) : EReal) := by
  simp [Ideal.ofBits, Ideal.ieee, -EReal.coe_mul]; norm_num

end Cert.Loss

end
-- ==== Proof.KernelValue.lean ====
/-
  What the kernel's block computations are on real entries and labels in range: the coefficients, their
  sum, and one block's contribution added to what was there.
-/
module

public import proofs.«01_k».proof.Proof.Lift
public import proofs.«01_k».proof.Proof.Gen.KernelIdeal.Skeleton
public import Idealize.ShloMosaic.Lib.Pointwise
public import Idealize.ShloMosaic.Lib.StableHlo.Predicate

@[expose] public section

noncomputable section

namespace Cert.KernelIdeal.Loss

open Cert.KernelIdeal Cert.KernelIdeal.Gen Idealize.ShloMosaic Cert.Loss

/-- A label word, converted to a number. -/
theorem label_number (a : Fin 256) : FloatOps.sitofp (F := Ideal) .f32 (BitVec.ofNat 32 a.val) = (((a.val : ℕ) : ℝ) : EReal) := by
  have e : (BitVec.ofNat 32 a.val).toInt = (a.val : ℤ) :=
    StableHlo.Predicate.toInt_ofNat_small _ (by have := a.isLt; omega)
  show (((BitVec.ofNat 32 a.val).toInt : ℝ) : EReal) = _
  rw [e]
  norm_cast

/-- A label's comparison with a class, as a number: one where they agree, zero elsewhere. -/
theorem label_hit (a b : Fin 256) :
    FloatOps.sitofp (F := Ideal) .f32 (BitVec.setWidth 32 (IntOp.cmpi .eq (BitVec.ofNat 32 a.val) (BitVec.ofNat 32 b.val)))
      = ((if a = b then 1 else 0 : ℝ) : EReal) := by
  by_cases h : a = b
  · subst h
    rw [if_pos rfl]
    show (((BitVec.setWidth 32 (IntOp.cmpi .eq (BitVec.ofNat 32 a.val) (BitVec.ofNat 32 a.val))).toInt : ℝ) : EReal) = _
    simp [IntOp.cmpi]
  · rw [if_neg h]
    have hne : BitVec.ofNat 32 a.val ≠ BitVec.ofNat 32 b.val := fun e => h (Fin.ext (by
      have := congrArg BitVec.toNat e
      simp only [BitVec.toNat_ofNat] at this
      omega))
    show (((BitVec.setWidth 32 (IntOp.cmpi .eq (BitVec.ofNat 32 a.val) (BitVec.ofNat 32 b.val))).toInt : ℝ) : EReal) = _
    simp [IntOp.cmpi, beq_eq_false_iff_ne.2 hne]

/-- The numbers of hits of a class add up to its count. -/
theorem hits_sum (T : Fin 8192 → Fin 256) (a : Fin 256) :
    ∑ j, (if T j = a then 1 else 0 : ℝ) = (count T a : ℝ) := by
  rw [Finset.sum_boole]
  rfl

/-- One over the larger of a count and one. -/
theorem one_div_max (c : ℕ) : Ideal.div (1 : EReal) (max ((c : ℝ) : EReal) 1) = ((1 / max (c : ℝ) 1 : ℝ) : EReal) := by
  have e : max ((c : ℝ) : EReal) 1 = ((max (c : ℝ) 1 : ℝ) : EReal) := by
    rw [← EReal.coe_one]; exact (EReal.coe_strictMono.monotone.map_max).symm
  rw [e, lift_one_div (ne_of_gt (lt_of_lt_of_le one_pos (le_max_right _ _)))]

variable (t : Vec Ideal S1x8192 .i32) (T : Fin 8192 → Fin 256)
variable (ht : ∀ j, t (ix2 0 j) = BitVec.ofNat 32 (T j).val)

include ht in
/-- The coefficient row: class number times weight. -/
theorem coef_apply (j : Fin 8192) : k0_pay1 (F := Ideal) t (ix2 0 j) = ((coef T j : ℝ) : EReal) := by
  pointwise [k0_pay1]
  simp only [ht, label_number, label_hit, lift_sum, hits_sum, one_div_max, ← EReal.coe_mul]
  rw [EReal.coe_eq_coe_iff]
  simp only [ite_mul, one_mul, zero_mul, Finset.sum_ite_eq, Finset.mem_univ, if_true]
  unfold coef weight
  rw [max_eq_left (by exact_mod_cast count_pos T j)]

include ht in
/-- The stored coefficient row is the same. -/
theorem coefs_apply (j : Fin 8192) : k0_pay2 (F := Ideal) t (ix2 0 j) = ((coef T j : ℝ) : EReal) := by
  unfold k0_pay2
  rw [shapeCast_self]
  exact coef_apply t T ht j

include ht in
/-- The stored number is the coefficients' sum. -/
theorem coefSum_eq : k0_pay3 (F := Ideal) t = ((∑ j, coef T j : ℝ) : EReal) := by
  pointwise [k0_pay3]
  simp only [coef_apply t T ht, lift_sum]
  simp

/-- The accumulator starts from zero. -/
theorem start_apply : k0_pay4 (F := Ideal) (ix2 0 0) = ((0 : ℝ) : EReal) := by
  pointwise [k0_pay4]
  exact EReal.coe_zero.symm

/-- One block: what was there, and the block's contribution. -/
theorem step_apply (x : Vec Ideal S512x8192 .f32) (w : Vec Ideal S1x8192 .f32) (s : Elt Ideal .f32) (o : Vec Ideal S1x1 .f32)
    (X : Fin 512 → Fin 8192 → ℝ) (c : Fin 8192 → ℝ) (A : ℝ) (hx : ∀ r j, x (ix2 r j) = ((X r j : ℝ) : EReal))
    (hw : ∀ j, w (ix2 0 j) = ((c j : ℝ) : EReal)) (hs : s = ((∑ j, c j : ℝ) : EReal)) (ho : o (ix2 0 0) = ((A : ℝ) : EReal)) :
    k0_pay5 (F := Ideal) x w s o (ix2 0 0) = ((A + blockLoss X c (1 / 8192) : ℝ) : EReal) := by
  pointwise [k0_pay5]
  simp only [hx, hw, hs, ho, const_bot, const_scale, lift_fold_max, ← EReal.coe_sub, Ideal.exp_coe, lift_sum]
  simp only [expSum_eq, lift_log (expSum_pos _), ← EReal.coe_add, ← EReal.coe_mul, ← EReal.coe_sub, lift_sum]
  rw [EReal.coe_eq_coe_iff]
  unfold blockLoss logSumExp
  simp

end Cert.KernelIdeal.Loss

end
-- ==== Proof.KernelTotal.lean ====
/-
  What the kernel returns on real entries and labels in range: the sum of the sixteen blocks' contributions.
-/
module

public import proofs.«01_k».proof.Proof.Blocks
public import proofs.«01_k».proof.Proof.KernelValue
public import Idealize.ShloMosaic.Lib.Pointwise.IndexBridge

@[expose] public section

noncomputable section

namespace Cert.KernelIdeal.Loss

open Cert.KernelIdeal Cert.KernelIdeal.Gen Idealize.ShloMosaic Idealize.ShloMosaic.TcCoe Cert.Loss

variable (m : (ℓ : Loc nD τ sig) → Buf (Elt Ideal) ℓ) (c : Dev nD)
variable (X : Fin 8192 → Fin 8192 → ℝ) (T : Fin 8192 → Fin 256)
variable (hX : ∀ i j, (m ((c : Thread nD τ).loc main_arg0) : Vec Ideal S8192x8192 .f32) (ValueIdx.ix2 i j) = ((X i j : ℝ) : EReal))
variable (hT : ∀ j, (m ((c : Thread nD τ).loc main_arg1) : Vec Ideal S8192 .i32) (ValueIdx.ix1 j) = BitVec.ofNat 32 (T j).val)

/-- Row `r` of block `b`; past the last block, the first row. -/
def blockRow (b : ℕ) (r : Fin 512) : Fin 8192 := if h : 512 * b + r.val < 8192 then ⟨512 * b + r.val, h⟩ else 0

/-- Inside the grid that is the row the block holds. -/
theorem blockRow_eq (b : ℕ) (h : b < cfg0.N) (r : Fin 512) : blockRow b r = rowOf b h r := by
  have hN : cfg0.N = 16 := N_0
  unfold blockRow
  rw [dif_pos (by omega)]

include hX in
/-- Block `b` of the matrix, entry for entry. -/
theorem block_real (b : ℕ) (h : b < cfg0.N) (r : Fin 512) (j : Fin 8192) :
    (iblk m c 0 ⟨b, h⟩ : Vec Ideal S512x8192 .f32) (ix2 r j) = ((X (blockRow b r) j : ℝ) : EReal) := by
  rw [ix2_eq_valueIdx, block_apply, hX, blockRow_eq b h]

include hT in
/-- The labels' row, entry for entry. -/
theorem labels_class (j : Fin 8192) : labels m c (ix2 0 j) = BitVec.ofNat 32 (T j).val := by
  rw [ix2_eq_valueIdx, labels_apply, hT]

include hX hT in
/-- After point `n` the accumulator holds the contributions of blocks `0 … n`. -/
theorem total_apply (n : ℕ) (h : n < cfg0.N) :
    total m c n h (ix2 0 0)
      = ((∑ b ∈ Finset.range (n + 1), blockLoss (fun r => X (blockRow b r)) (coef T) (1 / 8192) : ℝ) : EReal) := by
  induction n with
  | zero =>
    rw [Finset.sum_range_one, ← zero_add (blockLoss _ _ _)]
    exact step_apply _ _ _ _ _ _ _ (block_real m c X hX 0 h) (coefs_apply _ T (labels_class m c T hT))
      (coefSum_eq _ T (labels_class m c T hT)) start_apply
  | succ n ih =>
    rw [Finset.sum_range_succ]
    exact step_apply _ _ _ _ _ _ _ (block_real m c X hX (n + 1) h) (coefs_apply _ T (labels_class m c T hT))
      (coefSum_eq _ T (labels_class m c T hT)) (ih _)

include hX hT in
/-- The kernel returns the weighted loss. -/
theorem returned_apply (i : S_.Idx) :
    returned m c i = ((loss X (fun j => ((T j).val : ℝ)) (weight T) 8192 : ℝ) : EReal) := by
  have e : returned m c i = finalTotal m c (ix2 0 0) := by
    unfold returned
    pointwise
  rw [e]
  unfold finalTotal
  rw [total_apply m c X T hX hT]
  refine congrArg (fun r : ℝ => (r : EReal)) ?_
  exact blocks_eq_loss (by norm_num) X (fun j => ((T j).val : ℝ)) (weight T) 8192 blockRow fun b hb r => by
    have hr := r.isLt
    unfold blockRow
    rw [dif_pos (by omega)]

end Cert.KernelIdeal.Loss

end
-- ==== Proof.RefCount.lean ====
/-
  Adding ones at index words counts the words: the scatter of `n` ones into `k` zero words.
-/
module

public import proofs.«01_k».proof.Proof.Algebra
public import Idealize.ShloMosaic.Lib.Routing.OpsPair
public import Idealize.ShloMosaic.Lib.Routing.Ops
public import Idealize.ShloMosaic.Lib.StableHlo.Predicate
public import Idealize.ShloMosaic.Lib.Pointwise

@[expose] public section

noncomputable section

namespace Cert.Loss

open Idealize.ShloMosaic

variable {n k : ℕ}

/-- Update `i` of a scatter of `n` words, one index each, lands at `e` exactly when its index word, read signed, is `e`. -/
theorem lands_iff (d : ScatterDims ⟨1, ![k]⟩ ⟨2, ![n, 1]⟩ ⟨1, ![n]⟩) (hi : d.insertedWindowDims = [0])
    (hs : d.scatterDimsToOperandDims = [0]) (hv : d.indexVectorDim = 1) (idx : IVec ⟨2, ![n, 1]⟩ 32) (i : Fin n) (e : Fin k) :
    d.resultIdx? (ix1 i) idx = some (ix1 e) ↔ (idx (ix2 i 0)).toInt = (e.val : Int) := by
  have hm : (0 : Fin 1) ∈ d.scatterDimsToOperandDims := by rw [hs]; exact List.mem_singleton.2 rfl
  have window : d.window (ix1 i) 0 = 0 := by
    unfold ScatterDims.window
    exact dif_neg fun h => (of_decide_eq_true (List.mem_filter.1 h).2) (by rw [hi]; exact List.mem_singleton.2 rfl)
  have position : d.siIdx (ix1 i) ⟨d.scatterDimsToOperandDims.idxOf 0, List.idxOf_lt_length_iff.2 hm⟩ = ix2 i 0 := by
    funext b
    refine Fin.ext ?_
    match b with
    | ⟨0, _⟩ =>
      unfold ScatterDims.siIdx
      rw [dif_neg (by rw [hv]; exact Nat.zero_ne_one)]
      unfold ScatterDims.siCoord
      simp only [Fin.val_cast]
      exact congrArg (fun a : Fin 1 => (ix1 i a).val) (Subsingleton.elim _ 0)
    | ⟨1, _⟩ =>
      unfold ScatterDims.siIdx
      rw [dif_pos (by rw [hv])]
      show List.idxOf (0 : Fin 1) d.scatterDimsToOperandDims = 0
      rw [hs]; rfl
  have start : d.start (ix1 i) idx 0 = (idx (ix2 i 0)).toInt := by
    unfold ScatterDims.start
    rw [dif_pos hm, position]
  rw [ix1_eq_valueIdx e, Routing.resultIdx?_ix1, start, window]
  simp

/-- Adding one wherever a condition holds, over a list, adds the number of places where it holds. -/
theorem fold_ones {ι : Type} (P : ι → Prop) [DecidablePred P] (l : List ι) (a : BitVec 32) :
    l.foldl (fun s i => if P i then IntOp.addi s 1#32 else s) a = a + BitVec.ofNat 32 (l.filter (fun i => decide (P i))).length := by
  induction l generalizing a with
  | nil => simp
  | cons i l ih =>
    rw [List.foldl_cons, ih]
    by_cases h : P i
    · rw [if_pos h, List.filter_cons_of_pos (by simpa using h), List.length_cons, Nat.add_comm, BitVec.ofNat_add]
      show a + 1#32 + _ = a + (1#32 + _)
      rw [BitVec.add_assoc]
    · rw [if_neg h, List.filter_cons_of_neg (by simpa using h)]

/-- The places of a class in a list of all positions are as many as its count. -/
theorem length_eq_count (T : Fin n → Fin k) (e : Fin k) (N : ℕ) (h : N = n) :
    ((List.finRange N).filter fun i => decide (T (i.cast h) = e)).length = count T e := by
  subst h
  rw [← List.toFinset_card_of_nodup ((List.nodup_finRange N).filter _)]
  refine congrArg Finset.card (Finset.ext fun i => ?_)
  simp

/-- The scatter of ones into zeros at the words of `T`: each class's count. -/
theorem scatter_count (d : ScatterDims ⟨1, ![k]⟩ ⟨2, ![n, 1]⟩ ⟨1, ![n]⟩) (hi : d.insertedWindowDims = [0])
    (hs : d.scatterDimsToOperandDims = [0]) (hv : d.indexVectorDim = 1) (hk : k < 2 ^ 31) (x : IVec ⟨1, ![k]⟩ 32)
    (hx : ∀ e, x e = 0#32) (idx : IVec ⟨2, ![n, 1]⟩ 32) (u : IVec ⟨1, ![n]⟩ 32) (hu : ∀ i, u i = 1#32) (T : Fin n → Fin k)
    (hT : ∀ i, idx (ix2 i 0) = BitVec.ofNat 32 (T i).val) (e : Fin k) :
    Host.scatter d IntOp.addi x idx u (ix1 e) = BitVec.ofNat 32 (count T e) := by
  have hit : ∀ i : Fin n, d.resultIdx? (ix1 i) idx = some (ix1 e) ↔ T i = e := fun i => by
    have := (T i).isLt
    rw [lands_iff d hi hs hv, hT, StableHlo.Predicate.toInt_ofNat_small _ (by omega), Fin.ext_iff]
    omega
  have place : ∀ i : Fin (Shape.numel ⟨1, ![n]⟩), (Shape.rowMajor ⟨1, ![n]⟩).symm i = ix1 (i.cast (Routing.numel1 n)) := fun i => by
    rw [ix1_eq_valueIdx]; exact Routing.symm1 i
  rw [Routing.scatter_at, hx]
  simp only [hu]
  refine (fold_ones (fun i => d.resultIdx? ((Shape.rowMajor ⟨1, ![n]⟩).symm i) idx = some (ix1 e)) _ _).trans ?_
  rw [BitVec.zero_add, ← length_eq_count T e _ (Routing.numel1 n)]
  refine congrArg (fun l : List _ => BitVec.ofNat 32 l.length) (List.filter_congr fun i _ => ?_)
  rw [decide_eq_decide, place, hit]

end Cert.Loss

end
-- ==== Proof.RefTerms.lean ====
/-
  The reference's answer, in named parts: the row maxima, the shifted rows, the logarithms of the sums,
  the class counts, the weights, and the sum of the products.
-/
module

public import proofs.«01_k».proof.Proof.Gen.ReferenceIdeal.Run

@[expose] public section

noncomputable section

namespace Cert.ReferenceIdeal.Loss

open Cert.ReferenceIdeal Cert.ReferenceIdeal.Gen Idealize.ShloMosaic Idealize.ShloMosaic.TcCoe Idealize.SL.Sem

variable {F : FTy → Type} [FloatOps F]

/-- The largest entry of each row. -/
def rowTops (x : FVec F S8192x8192 .f32) : FVec F S8192 .f32 :=
  Host.reduce FloatOps.maximumf x (constant S_ .f32 0xFF800000#32) reducesTo_S8192x8192_S8192_d1 h_S_

/-- The same, after the comparison with minus infinity that the softmax makes. -/
def tops (x : FVec F S8192x8192 .f32) : FVec F S8192 .f32 :=
  maximumf (broadcastInDim S8192 ![] bcast_S_S8192 (constant S_ .f32 0xFF800000#32)) (rowTops x)

/-- One number per row, repeated along its row. -/
def alongRows (v : FVec F S8192x1 .f32) : FVec F S8192x8192 .f32 :=
  broadcastInDim S8192x8192 ![0, 1] bcast_S8192x1_S8192x8192_0_1 v

/-- A vector as a column. -/
def asColumn {α : Type} (v : S8192.Idx → α) : S8192x1.Idx → α :=
  broadcastInDim S8192x1 ![0] bcast_S8192_S8192x1_0 v

/-- One number per column, repeated down its column. -/
def downColumns (v : FVec F S8192 .f32) : FVec F S8192x8192 .f32 :=
  broadcastInDim S8192x8192 ![0, 1] bcast_S1x8192_S8192x8192_0_1 (broadcastInDim S1x8192 ![1] bcast_S8192_S1x8192_1 v)

/-- The rows, with their largest entries taken off. -/
def shifted (x : FVec F S8192x8192 .f32) : FVec F S8192x8192 .f32 := subf x (alongRows (asColumn (tops x)))

/-- The sums of the exponentials. -/
def expSums (x : FVec F S8192x8192 .f32) : FVec F S8192 .f32 :=
  Host.reduceAdd (Host.exp (shifted x)) (constant S_ .f32 0x00000000#32) reducesTo_S8192x8192_S8192_d1 h_S_

/-- The log-softmax. -/
def logProbs (x : FVec F S8192x8192 .f32) : FVec F S8192x8192 .f32 :=
  subf (shifted x) (alongRows (Host.log (asColumn (expSums x))))

/-- A label, with the number of classes added where it is negative. -/
def wrapped (t : IVec S8192 32) : IVec S8192 32 :=
  select (cmpi .slt t (broadcastInDim S8192 ![] bcast_S_S8192 (constantI S_ 32 0#32)))
    (addi t (broadcastInDim S8192 ![] bcast_S_S8192 (constantI S_ 32 256#32))) t

/-- A label, or zero where it is negative. -/
def clipped (t : IVec S8192 32) : IVec S8192 32 :=
  maxsi (broadcastInDim S8192 ![] bcast_S_S8192 (id (constantI S_ 32 0#32))) t

/-- How often each class is named. -/
def counts (t : IVec S8192 32) : IVec S256 32 :=
  Host.scatter scatter_S256_S8192x1_S8192_n_0_0_1 IntOp.addi (broadcastInDim S256 ![] bcast_S_S256 (constantI S_ 32 0#32))
    (asColumn (wrapped (clipped t))) (broadcastInDim S8192 ![] bcast_S_S8192 (constantI S_ 32 1#32))

/-- One over each class count. -/
def classWeights (t : IVec S8192 32) : FVec F S256 .f32 :=
  Host.divf (broadcastInDim S256 ![] bcast_S_S256 (constant S_ .f32 0x3F800000#32)) (sitofp .f32 (counts t))

/-- Which positions name a class there is. -/
def inRange (i : IVec S8192x1 32) : IVec S8192 1 :=
  Host.reduce IntOp.andi (andi (cmpi .sge i (broadcastInDim S8192x1 ![] bcast_S_S8192x1 (constantI S_ 32 0#32)))
    (cmpi .sle i (broadcastInDim S8192x1 ![0, 1] bcast_S1x1_S8192x1_0_1 (broadcastInDim S1x1 ![1] bcast_S1_S1x1_1 (constantI S1 32 255#32)))))
    (constantI S_ 1 1#1) reducesTo_S8192x1_S8192_d1 h_S_

/-- The weight of each position: its class's, or no number where the class does not exist. -/
def weights (t : IVec S8192 32) : FVec F S8192 .f32 :=
  select (inRange (asColumn (wrapped t)))
    (Host.gather gather_S256_S8192x1_S8192_n_0_n_n_0_1_1 (classWeights t) (asColumn (wrapped t)))
    (broadcastInDim S8192 ![] bcast_S_S8192 (constant S_ .f32 0x7FC00000#32))

/-- The products the reference adds. -/
def products (x : FVec F S8192x8192 .f32) (t : IVec S8192 32) : FVec F S8192x8192 .f32 :=
  mulf (mulf (downColumns (Host.negf (sitofp .f32 t))) (logProbs x)) (downColumns (weights t))

/-- The products' row sums. -/
def rowSums (x : FVec F S8192x8192 .f32) (t : IVec S8192 32) : FVec F S8192 .f32 :=
  Host.reduceAdd (products x t) (constant S_ .f32 0x00000000#32) reducesTo_S8192x8192_S8192_d1 h_S_

/-- The reference's answer: the mean of the row sums. -/
def answer (x : FVec F S8192x8192 .f32) (t : IVec S8192 32) : FVec F S_ .f32 :=
  Host.divf (Host.reduceAdd (rowSums x t) (constant S_ .f32 0x00000000#32) reducesTo_S8192_S_d0 h_S_) (constant S_ .f32 0x46000000#32)

/-- The reference returns that answer and leaves its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = answer (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1, (h c).2⟩) (Value.run m ρ)

end Cert.ReferenceIdeal.Loss

end
-- ==== Proof.RefLabels.lean ====
/-
  The reference's weights on labels in range: one over the count of the label's class.
-/
module

public import proofs.«01_k».proof.Proof.Lift
public import proofs.«01_k».proof.Proof.RefCount
public import proofs.«01_k».proof.Proof.RefTerms
public import Idealize.ShloMosaic.Lib.Routing.OpsSet
public import Idealize.ShloMosaic.Lib.Affine
public import Idealize.ShloMosaic.Lib.ReduceAll

@[expose] public section

noncomputable section

namespace Cert.ReferenceIdeal.Loss

open Cert.ReferenceIdeal Cert.ReferenceIdeal.Gen Idealize.ShloMosaic Cert.Loss

/-- A class word, read signed, is the class. -/
theorem class_toInt (a : Fin 256) : (BitVec.ofNat 32 a.val).toInt = (a.val : ℤ) :=
  StableHlo.Predicate.toInt_ofNat_small _ (by have := a.isLt; omega)

variable (t : IVec S8192 32) (T : Fin 8192 → Fin 256) (hT : ∀ j, t (ix1 j) = BitVec.ofNat 32 (T j).val)

include hT in
/-- A label in range is not wrapped. -/
theorem wrapped_apply (j : Fin 8192) : wrapped t (ix1 j) = BitVec.ofNat 32 (T j).val := by
  pointwise [wrapped]
  rw [hT]
  refine Routing.wrap_of_lt _ _ ?_
  have := (T j).isLt
  rw [BitVec.toNat_ofNat]
  omega

include hT in
/-- A label in range is not clipped. -/
theorem clipped_apply (j : Fin 8192) : clipped t (ix1 j) = BitVec.ofNat 32 (T j).val := by
  pointwise [clipped]
  rw [hT]
  show IntOp.maxsi 0#32 (BitVec.ofNat 32 (T j).val) = _
  have h := class_toInt (T j)
  unfold IntOp.maxsi
  refine if_neg fun hs => ?_
  rw [BitVec.slt_iff_toInt_lt, h] at hs
  simp only [BitVec.toInt_zero] at hs
  omega

/-- A vector laid out as a column, entry for entry. -/
theorem asColumn_apply {α : Type} (v : S8192.Idx → α) (j : Fin 8192) : asColumn v (ix2 j 0) = v (ix1 j) := by
  pointwise [asColumn]

include hT in
/-- The scatter counts the labels of each class. -/
theorem counts_apply (a : Fin 256) : counts t (ix1 a) = BitVec.ofNat 32 (count T a) := by
  unfold counts
  refine scatter_count _ rfl rfl rfl (by norm_num) _ (fun e => ?_) _ _ (fun i => ?_) T (fun j => ?_) a
  · rfl
  · rfl
  · rw [asColumn_apply]
    exact wrapped_apply _ T (clipped_apply t T hT) j

include hT in
/-- The weight of a class that some label names. -/
theorem classWeights_apply (j : Fin 8192) : classWeights (F := Ideal) t (ix1 (T j)) = ((weight T j : ℝ) : EReal) := by
  have hp := count_pos T j
  have hl := count_le T (T j)
  pointwise [classWeights]
  rw [counts_apply t T hT]
  have e : FloatOps.sitofp (F := Ideal) .f32 (BitVec.ofNat 32 (count T (T j))) = ((count T (T j) : ℝ) : EReal) := by
    show (((BitVec.ofNat 32 (count T (T j))).toInt : ℝ) : EReal) = _
    rw [StableHlo.Predicate.toInt_ofNat_small _ (by omega)]
    exact congrArg (fun r : ℝ => (r : EReal)) (Int.cast_natCast _)
  rw [e, lift_one_div (by exact_mod_cast hp.ne')]
  rfl

include hT in
/-- A label in range passes the range test. -/
theorem inRange_apply (j : Fin 8192) : inRange (asColumn (wrapped t)) (ix1 j) = 1#1 := by
  unfold inRange
  refine Host.reduce_andi_one _ _ _ _ _ rfl fun i => ?_
  obtain ⟨p, q, rfl⟩ : ∃ p q, i = ix2 p q := ⟨i 0, i 1, funext fun a => match a with | ⟨0, _⟩ => rfl | ⟨1, _⟩ => rfl⟩
  obtain rfl : q = 0 := Subsingleton.elim _ _
  pointwise
  rw [asColumn_apply, wrapped_apply t T hT]
  have h := class_toInt (T p)
  have hl := (T p).isLt
  refine IntOp.andi_eq_one.2 ⟨IntOp.cmpi_sge.2 ?_, IntOp.cmpi_sle.2 ?_⟩
  · rw [h]; simp
  · rw [h]; simp; omega

include hT in
/-- The weight of each position. -/
theorem weights_apply (j : Fin 8192) : weights (F := Ideal) t (ix1 j) = ((weight T j : ℝ) : EReal) := by
  have e : weights (F := Ideal) t (ix1 j)
      = Scalar.select (inRange (asColumn (wrapped t)) (ix1 j))
          (Host.gather gather_S256_S8192x1_S8192_n_0_n_n_0_1_1 (classWeights t) (asColumn (wrapped t)) (ix1 j))
          (broadcastInDim S8192 ![] bcast_S_S8192 (constant S_ .f32 0x7FC00000#32) (ix1 j)) := rfl
  rw [e, inRange_apply t T hT, ix1_eq_valueIdx,
    Routing.gather_take1 _ rfl rfl rfl rfl _ _ j (T j) (by rw [← ix2_eq_valueIdx, asColumn_apply, wrapped_apply t T hT]) (by norm_num),
    ← ix1_eq_valueIdx, classWeights_apply t T hT]
  rfl

end Cert.ReferenceIdeal.Loss

end
-- ==== Proof.RefValue.lean ====
/-
  What the reference returns on real entries and labels in range: the weighted loss.
-/
module

public import proofs.«01_k».proof.Proof.RefLabels

@[expose] public section

noncomputable section

namespace Cert.ReferenceIdeal.Loss

open Cert.ReferenceIdeal Cert.ReferenceIdeal.Gen Idealize.ShloMosaic Cert.Loss

/-- A column's entry, repeated along its row. -/
theorem alongRows_apply (v : FVec Ideal S8192x1 .f32) (i j : Fin 8192) : alongRows v (ix2 i j) = v (ix2 i 0) := by
  pointwise [alongRows]

/-- A vector's entry, repeated down its column. -/
theorem downColumns_apply (v : FVec Ideal S8192 .f32) (i j : Fin 8192) : downColumns v (ix2 i j) = v (ix1 j) := by
  pointwise [downColumns]

/-- The maximum of a row, at an index. -/
theorem rowTops_fold (x : FVec Ideal S8192x8192 .f32) (i : Fin 8192) :
    rowTops x (ix1 i) = Finset.univ.fold max (Ideal.ofBits .f32 0xFF800000#32) fun j => x (ix2 i j) := by
  pointwise [rowTops]

/-- A sum along a row, at an index. -/
theorem sumAlong_apply (x : FVec Ideal S8192x8192 .f32) (i : Fin 8192) :
    Host.reduceAdd x (constant S_ .f32 0x00000000#32) reducesTo_S8192x8192_S8192_d1 h_S_ (ix1 i) = ∑ j, x (ix2 i j) := by
  pointwise

/-- A sum of a vector. -/
theorem sumAll_apply (x : FVec Ideal S8192 .f32) (i : S_.Idx) :
    Host.reduceAdd x (constant S_ .f32 0x00000000#32) reducesTo_S8192_S_d0 h_S_ i = ∑ j, x (ix1 j) := by
  pointwise

/-- The larger of a vector's entry and a constant. -/
theorem max_const_apply (b : BitVec 32) (v : FVec Ideal S8192 .f32) (i : S8192.Idx) :
    maximumf (broadcastInDim S8192 ![] bcast_S_S8192 (constant S_ .f32 b)) v i = max (Ideal.ofBits .f32 b) (v i) := rfl

/-- A difference, entry for entry. -/
theorem sub_apply {s : Shape} (a b : FVec Ideal s .f32) (i : s.Idx) : subf a b i = a i - b i := rfl

/-- A product, entry for entry. -/
theorem mul_apply {s : Shape} (a b : FVec Ideal s .f32) (i : s.Idx) : mulf a b i = a i * b i := rfl

/-- An exponential, entry for entry. -/
theorem exp_apply {s : Shape} (a : FVec Ideal s .f32) (i : s.Idx) : Host.exp a i = Ideal.exp (a i) := rfl

/-- A logarithm, entry for entry. -/
theorem log_apply {s : Shape} (a : FVec Ideal s .f32) (i : s.Idx) : Host.log a i = Ideal.log (a i) := rfl

/-- A quotient by a constant. -/
theorem div_const_apply (a : FVec Ideal S_ .f32) (b : BitVec 32) (i : S_.Idx) :
    Host.divf a (constant S_ .f32 b) i = Ideal.div (a i) (Ideal.ofBits .f32 b) := rfl

variable (x : FVec Ideal S8192x8192 .f32) (X : Fin 8192 → Fin 8192 → ℝ) (hX : ∀ i j, x (ix2 i j) = ((X i j : ℝ) : EReal))

include hX in
/-- The largest entry of each row. -/
theorem tops_apply (i : Fin 8192) : tops x (ix1 i) = ((rowMax (X i) : ℝ) : EReal) := by
  unfold tops
  rw [max_const_apply, rowTops_fold, const_bot, bot_max]
  simp only [hX]
  exact lift_fold_max _

include hX in
/-- The shifted rows. -/
theorem shifted_apply (i j : Fin 8192) : shifted x (ix2 i j) = ((X i j - rowMax (X i) : ℝ) : EReal) := by
  unfold shifted
  rw [sub_apply, alongRows_apply, asColumn_apply, tops_apply x X hX, hX, EReal.coe_sub]

include hX in
/-- The sums of the exponentials. -/
theorem expSums_apply (i : Fin 8192) : expSums x (ix1 i) = ((expSum (X i) : ℝ) : EReal) := by
  unfold expSums
  rw [sumAlong_apply]
  have e : ∀ j, Host.exp (shifted x) (ix2 i j) = ((Real.exp (X i j - rowMax (X i)) : ℝ) : EReal) := fun j => by
    rw [exp_apply, shifted_apply x X hX, Ideal.exp_coe]
  simp only [e, lift_sum]
  rfl

include hX in
/-- The log-softmax. -/
theorem logProbs_apply (i j : Fin 8192) :
    logProbs x (ix2 i j) = ((X i j - rowMax (X i) - Real.log (expSum (X i)) : ℝ) : EReal) := by
  unfold logProbs
  rw [sub_apply, alongRows_apply, log_apply, asColumn_apply, expSums_apply x X hX, lift_log (expSum_pos _), shifted_apply x X hX, ← EReal.coe_sub]

variable (t : IVec S8192 32) (T : Fin 8192 → Fin 256) (hT : ∀ j, t (ix1 j) = BitVec.ofNat 32 (T j).val)

include hT in
/-- The labels, as numbers with their signs changed. -/
theorem negLabels_apply (j : Fin 8192) :
    (Host.negf (sitofp .f32 t) : FVec Ideal S8192 .f32) (ix1 j) = ((-((T j).val : ℝ) : ℝ) : EReal) := by
  have e : (Host.negf (sitofp .f32 t) : FVec Ideal S8192 .f32) (ix1 j) = -(((t (ix1 j)).toInt : ℝ) : EReal) := rfl
  rw [e, hT, class_toInt, EReal.coe_neg]
  exact congrArg (fun r : ℝ => -(r : EReal)) (Int.cast_natCast _)

include hX hT in
/-- The products. -/
theorem products_apply (i j : Fin 8192) :
    products x t (ix2 i j)
      = ((-((T j).val : ℝ) * (X i j - rowMax (X i) - Real.log (expSum (X i))) * weight T j : ℝ) : EReal) := by
  unfold products
  rw [mul_apply, mul_apply, downColumns_apply, downColumns_apply, negLabels_apply t T hT, logProbs_apply x X hX, weights_apply t T hT,
    ← EReal.coe_mul, ← EReal.coe_mul]

include hX hT in
/-- The reference's answer is the weighted loss. -/
theorem answer_apply (i : S_.Idx) :
    answer x t i = ((loss X (fun j => ((T j).val : ℝ)) (weight T) 8192 : ℝ) : EReal) := by
  unfold answer
  have r : ∀ p, rowSums x t (ix1 p) = ∑ j, products x t (ix2 p j) := fun p => sumAlong_apply _ p
  rw [div_const_apply, sumAll_apply, const_size]
  simp only [r, products_apply x X hX t T hT, lift_sum]
  rw [lift_div _ (by norm_num)]
  rfl

end Cert.ReferenceIdeal.Loss

end
-- ==== Proof.Inputs.lean ====
/-
  What the precondition says of the arguments: every entry is a real number and every label a class.
-/
module

public import proofs.«01_k».proof.Proof.Lift
public import proofs.«01_k».proof.Proof.Gen.Pre_finite_and_in_range
public import Idealize.ShloMosaic.Lib.ReduceAll
public import Idealize.ShloMosaic.Lib.Affine
public import Idealize.ShloMosaic.Lib.Pointwise

@[expose] public section

noncomputable section

namespace Cert.Pre_finite_and_in_range.Loss

open Cert.Pre_finite_and_in_range Idealize.ShloMosaic

/-- The constant plus infinity. -/
theorem const_top : Ideal.ofBits .f32 0x7F800000#32 = (⊤ : EReal) := by
  simp [Ideal.ofBits, Ideal.ieee]

/-- An extended real whose size is below plus infinity is a real. -/
theorem real_of_abs_lt {a : EReal} (h : max a (-a) < ⊤) : ∃ r : ℝ, a = ((r : ℝ) : EReal) := by
  induction a using EReal.rec with
  | bot => simp at h
  | top => simp at h
  | coe r => exact ⟨r, rfl⟩

/-- A comparison that says less says so. -/
theorem lt_of_cmp {a b : EReal} (h : Ideal.cmp .olt a b = 1#1) : a < b := by
  by_contra hn
  simp [Ideal.cmp, hn] at h

/-- A word between 0 and 255 is a class. -/
theorem class_of_range {w : BitVec 32} (h0 : 0 ≤ w.toInt) (h1 : w.toInt < 256) : ∃ a : Fin 256, w = BitVec.ofNat 32 a.val := by
  have hn : w.toNat < 256 := by
    have := w.isLt
    rw [BitVec.toInt_eq_toNat_cond] at h0 h1
    split at h0 <;> omega
  exact ⟨⟨w.toNat, hn⟩, (BitVec.ofNat_toNat 32 w ▸ by simp)⟩

/-- The precondition, at every index. -/
theorem inputs [Facts] (x : FVec Ideal S8192x8192 .f32) (t : IVec S8192 32) (h : fn (F := Ideal) x t = fun _ => 1#1) :
    (∃ X : Fin 8192 → Fin 8192 → ℝ, ∀ i j, x (ix2 i j) = ((X i j : ℝ) : EReal))
      ∧ ∃ T : Fin 8192 → Fin 256, ∀ j, t (ix1 j) = BitVec.ofNat 32 (T j).val := by
  have h0 := congrFun h ix0
  dsimp only [fn] at h0
  obtain ⟨h12, h3⟩ := IntOp.andi_eq_one.1 h0
  obtain ⟨h1, h2⟩ := IntOp.andi_eq_one.1 h12
  have hs : Subsingleton S_.Idx := ⟨fun a b => funext fun k => k.elim0⟩
  constructor
  · have hr : ∀ i j, ∃ r : ℝ, x (ix2 i j) = ((r : ℝ) : EReal) := fun i j => by
      have e1 := Host.reduce_andi_all _ _ _ _ _ h1 (ix2 i j)
      change Ideal.cmp .olt (max (x (ix2 i j)) (-x (ix2 i j))) (Ideal.ofBits .f32 0x7F800000#32) = 1#1 at e1
      rw [const_top] at e1
      exact real_of_abs_lt (lt_of_cmp e1)
    exact ⟨fun i j => (hr i j).choose, fun i j => (hr i j).choose_spec⟩
  · have hr : ∀ j, ∃ a : Fin 256, t (ix1 j) = BitVec.ofNat 32 a.val := fun j => by
      have e2 := Host.reduce_andi_all _ _ _ _ _ h2 (ix1 j)
      have e3 := Host.reduce_andi_all _ _ _ _ _ h3 (ix1 j)
      exact class_of_range (IntOp.cmpi_sge.1 e2) (IntOp.cmpi_slt.1 e3)
    exact ⟨fun j => (hr j).choose, fun j => (hr j).choose_spec⟩

end Cert.Pre_finite_and_in_range.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_in_range

public import proofs.«01_k».proof.Proof.Gen.ReferenceIdeal.Run
public import proofs.«01_k».proof.Proof.KernelTotal
public import proofs.«01_k».proof.Proof.RefValue
public import proofs.«01_k».proof.Proof.Inputs
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and ends with every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => (h c).2, sem_eq_zero_of_no_sems (by decide) r.2⟩)
    (Cert.ReferenceIdeal.Loss.run m ρ)

/-- On real entries and labels in range the kernel's returned number and the reference's are the same weighted loss. -/
theorem returned_eq_answer (m : (ℓ : Loc Cert.KernelIdeal.nD Cert.KernelIdeal.τ Cert.KernelIdeal.sig) → Buf (Elt Ideal) ℓ)
    (hm : Cert.Pre_KernelIdeal_finite_and_in_range m) (c : Dev Cert.KernelIdeal.nD) :
    (Cert.KernelIdeal.Loss.returned m c : FVec Ideal Cert.KernelIdeal.S_ .f32)
      = Cert.ReferenceIdeal.Loss.answer (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  obtain ⟨⟨X, hX⟩, T, hT⟩ := Cert.Pre_finite_and_in_range.Loss.inputs _ _ (hm c)
  funext i
  rw [Cert.KernelIdeal.Loss.returned_apply m c X T (fun i j => by rw [← ix2_eq_valueIdx]; exact hX i j)
      (fun j => by rw [← ix1_eq_valueIdx]; exact hT j)]
  exact (Cert.ReferenceIdeal.Loss.answer_apply _ X hX _ T hT i).symm

/-- Everything claimed. -/
theorem claim : Cert.Claim := ⟨Cert.Kernel.Gen.facts, Cert.KernelIdeal.Gen.facts, Cert.ReferenceIdeal.Gen.facts, Cert.Pre_finite_and_in_range.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  fun m ρ m' ρ' hm hargs => ⟨fun c => Cert.KernelIdeal.Loss.returned m c,
    Cert.KernelIdeal.Loss.run m ρ,
    (θ_run Cert.ReferenceIdeal.defs _ _).mono
      (fun r h c => ⟨(h c).1.trans (by rw [(hargs c).1, (hargs c).2]; exact (returned_eq_answer m hm c).symm), (h c).2⟩)
      (Cert.ReferenceIdeal.Loss.run m' ρ')⟩⟩

end Cert.Proof

end
